-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S1x2048x1024, .f32⟩
  | .hbm, ⟨27, _⟩ => ⟨S4x2048x1024, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Embed.Spec.lean ====
/- The function that both programs are shown to compute: a batch of sequences plus a table of position embeddings. -/
module

public import Idealize.ShloMosaic.PureOps

@[expose] public section

namespace Embed

open Idealize.ShloMosaic

variable {F : FTy → Type} [FloatOps F]

/-- The table's index for element `(b, s, d)` of the batch: row `s`, the position, and column `d`. -/
abbrev tableIdx (i : (⟨3, ![4, 2048, 1024]⟩ : Shape).Idx) : (⟨2, ![2048, 1024]⟩ : Shape).Idx :=
  fun a => match a with
    | ⟨0, _⟩ => ⟨(i 1).val, (i 1).isLt⟩
    | ⟨1, _⟩ => ⟨(i 2).val, (i 2).isLt⟩

/-- The batch with the table's row `s` added to position `s` of each of its sequences: element `(b, s, d)` is
    `x[b, s, d] + table[s, d]`. -/
def embedded (x : FVec F ⟨3, ![4, 2048, 1024]⟩ .f32) (table : FVec F ⟨2, ![2048, 1024]⟩ .f32) :
    FVec F ⟨3, ![4, 2048, 1024]⟩ .f32 :=
  fun i => FloatOps.addf (x i) (table (tableIdx i))

end Embed

end
-- ==== Proof.Embed.Tiles.lean ====
/- What the tiled kernel leaves in its result array. The grid is 4 position blocks by 4 batch elements; point `(s, b)` reads
   block `s` of sequence `b` and block `s` of the table, 512 positions each, and writes block `s` of sequence `b` of the result. -/
module

public import proofs.«01_k».proof.Proof.Embed.Spec
public import proofs.«01_k».proof.Proof.Gen.KernelIdeal.Value
public import Idealize.ShloMosaic.Lib.Pipeline.ValueKit.Geometry

@[expose] public section

noncomputable section

namespace Cert.KernelIdeal.Tiles

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The batch's window moves with the result's. -/
theorem batch_index : ∀ t : Fin cfg0.N, ∀ a, win0_0.index t a = win0_2.index t a :=
  (by decide +kernel : ∀ t : Fin grid0.N, ∀ a, win0_0.index t a = win0_2.index t a)

/-- The table's window follows the result's on the position axis, and both have the one block on the feature axis. -/
theorem table_index : ∀ t : Fin cfg0.N, win0_1.index t 0 = win0_2.index t 1 ∧ win0_1.index t 1 = 0 ∧ win0_2.index t 2 = 0 :=
  (by decide +kernel : ∀ t : Fin grid0.N, win0_1.index t 0 = win0_2.index t 1 ∧ win0_1.index t 1 = 0 ∧ win0_2.index t 2 = 0)

theorem zeros₃ : (![0, 0, 0] : Fin 3 → Nat) = fun _ => 0 := funext fun a => by fin_cases a <;> rfl
theorem zeros₂ : (![0, 0] : Fin 2 → Nat) = fun _ => 0 := funext fun a => by fin_cases a <;> rfl

/-- One block of the body's result, read at an index: the batch's element plus the table's at the same position and feature. -/
theorem block_apply (x : Vec F S1x512x1024 .f32) (p : Vec F S512x1024 .f32) (y : S1x512x1024.Idx) :
    out0_2 x p y = FloatOps.addf (x y) (p (Value.ix2_1 y)) := by
  unfold out0_2
  rw [View.ld_unit_zero zeros₃, View.ld_unit_zero zeros₂, Value.canon2_eq]
  refine congrArg (fun j => FloatOps.addf (x j) _) (funext fun a => Fin.ext ?_)
  have h0 : (y 0).val < 1 := (y 0).isLt
  match a with
  | ⟨0, _⟩ => show 0 = (y 0).val; omega
  | ⟨1, _⟩ => rfl
  | ⟨2, _⟩ => rfl

/-- The result array after the run: the batch with the table added, by position. -/
theorem final (c : Dev nD) : (dats m 0 c).arrAt 2 cfg0.N
    = Embed.embedded (m ((c : Thread nD τ).loc main_arg0)) (m ((c : Thread nD τ).loc main_arg1)) := by
  refine (dats m 0 c).arrAt_eq_of_covers 2 _ (by decide +kernel) fun t hf y => ?_
  blk_simp
  rw [show (dats m 0 c).after 2 t y = _ from congrFun (after0_2 m c t) y, block_apply]
  blk_simp [iblk, Embed.embedded]
  have e0 : (win0_0.blk t).view.emb y = (win0_2.blk t).view.emb y := by
    blk_ext [batch_index t]
  have e1 : (win0_1.blk t).view.emb (Value.ix2_1 y) = Embed.tableIdx ((win0_2.blk t).view.emb y) := by
    blk_ext [table_index t]
  rw [e0, e1]

/-- The run: the result array at the batch with the table added, the arguments unchanged. -/
theorem run : θ_run defs (onTc (τ := τ) (main (F := F))) ⟨m, fun _ => 0, ρ⟩ fun r => ∀ c : Dev nD,
      r.2.mem ((c : Thread nD τ).loc main_v0)
        = Embed.embedded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Tiles

end
-- ==== Proof.Embed.Lookup.lean ====
/- What the reference computes. Its positions are `0 … 2047`; the lookup wraps a negative position, gathers the rows, and
   replaces what a position outside the table would have read. Every position here is a row of the table, so the lookup is
   the table itself. -/
module

public import proofs.«01_k».proof.Proof.Embed.Spec
public import proofs.«01_k».proof.Proof.Gen.ReferenceIdeal.Run
public import Idealize.ShloMosaic.Lib.Routing.Ops
public import Idealize.ShloMosaic.Lib.ReduceAll

@[expose] public section

noncomputable section

namespace Cert.ReferenceIdeal.Lookup

open Cert.ReferenceIdeal Cert.ReferenceIdeal.Gen Idealize.ShloMosaic Idealize.ShloMosaic.TcCoe Idealize.SL.Sem
open Idealize.ShloMosaic.ValueIdx

variable {F : FTy → Type} [FloatOps F]

/-- The positions, a negative one wrapped by the table's length. -/
abbrev wrapped : IVec S2048 32 :=
  select (cmpi .slt (iotaInDim S2048 32 0) (broadcastInDim S2048 ![] bcast_S_S2048 (constantI S_ 32 0#32)))
    (addi (iotaInDim S2048 32 0) (broadcastInDim S2048 ![] bcast_S_S2048 (constantI S_ 32 2048#32))) (iotaInDim S2048 32 0)

/-- The positions as a column of start indices. -/
abbrev starts : IVec S2048x1 32 := broadcastInDim S2048x1 ![0] bcast_S2048_S2048x1_0 wrapped

/-- A position as a 32-bit word is not negative, so it isn't wrapped; and it is a row of the table, at least 0 and at most 2047. -/
theorem word_facts : ∀ n < 2048, IntOp.cmpi .slt (BitVec.ofNat 32 n) 0#32 = 0#1
    ∧ IntOp.andi (IntOp.cmpi .sge (BitVec.ofNat 32 n) 0#32) (IntOp.cmpi .sle (BitVec.ofNat 32 n) 2047#32) = 1#1 := by
  decide +kernel

/-- The wrapped positions are the positions. -/
theorem wrapped_apply (j : S2048.Idx) : wrapped j = BitVec.ofNat 32 (j 0).val := by
  show Scalar.select (IntOp.cmpi .slt (BitVec.ofNat 32 (j 0).val) 0#32) _ _ = _
  rw [(word_facts _ (j 0).isLt).1, select_zero]
  rfl

/-- Start index `s` is `s`. -/
theorem starts_apply (j : S2048x1.Idx) : starts j = BitVec.ofNat 32 (j 0).val := by
  refine (wrapped_apply _).trans ?_
  rfl

/-- Which positions are rows of the table: the lookup's mask. -/
abbrev inside : IVec S2048 1 :=
  Host.reduce IntOp.andi
    (andi (cmpi .sge starts (broadcastInDim S2048x1 ![] bcast_S_S2048x1 (constantI S_ 32 0#32)))
      (cmpi .sle starts
        (broadcastInDim S2048x1 ![0, 1] bcast_S1x1_S2048x1_0_1 (broadcastInDim S1x1 ![1] bcast_S1_S1x1_1 (constantI S1 32 2047#32)))))
    (constantI S_ 1 1#1) reducesTo_S2048x1_S2048_d1 h_S_

/-- Every position is. -/
theorem inside_apply (j : S2048.Idx) : inside j = 1#1 := by
  refine Host.reduce_andi_one _ _ _ _ j rfl fun i => ?_
  show IntOp.andi (IntOp.cmpi .sge (starts i) 0#32) (IntOp.cmpi .sle (starts i) 2047#32) = 1#1
  rw [starts_apply]
  exact (word_facts _ (i 0).isLt).2

/-- The lookup of every position in the table. -/
abbrev lookup (table : FVec F S2048x1024 .f32) : FVec F S2048x1024 .f32 :=
  select (broadcastInDim S2048x1024 ![0] bcast_S2048_S2048x1024_0 inside)
    (Host.gather gather_S2048x1024_S2048x1_S2048x1024_1_0_n_n_0_1_11024 table starts)
    (broadcastInDim S2048x1024 ![] bcast_S_S2048x1024 (constant S_ .f32 0x7FC00000#32))

/-- It is the table. -/
theorem lookup_eq (table : FVec F S2048x1024 .f32) : lookup table = table := by
  funext j
  rw [eq_ix2 j]
  show Scalar.select (inside _) _ _ = _
  rw [inside_apply, select_one]
  exact Routing.gather_row _ rfl rfl rfl rfl rfl table starts (j 0) (j 1) (j 0) (starts_apply _) (by omega)

/-- The reference's whole result: the batch plus the lookup, repeated for every sequence of the batch. -/
theorem sum_eq (x : FVec F S4x2048x1024 .f32) (table : FVec F S2048x1024 .f32) :
    addf x (broadcastInDim S4x2048x1024 ![0, 1, 2] bcast_S1x2048x1024_S4x2048x1024_0_1_2
        (broadcastInDim S1x2048x1024 ![1, 2] bcast_S2048x1024_S1x2048x1024_1_2 (lookup table)))
      = Embed.embedded x table := by
  rw [lookup_eq]
  funext i
  refine congrArg (fun j => FloatOps.addf (x i) (table j)) (funext fun a => Fin.ext ?_)
  match a with
  | ⟨0, _⟩ => rfl
  | ⟨1, _⟩ => rfl

/-- The run: the result at the batch with the table added, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = Embed.embedded (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (sum_eq _ _), (h c).2⟩) (Value.run m ρ)

end Cert.ReferenceIdeal.Lookup

end
-- ==== Proof.lean ====
module

public import proofs.«01_k».proof.Defs
public import proofs.«01_k».proof.Proof.Gen.Kernel
public import proofs.«01_k».proof.Proof.Gen.Kernel.Frame
public import proofs.«01_k».proof.Proof.Embed.Tiles
public import proofs.«01_k».proof.Proof.Embed.Lookup
public import Idealize.ShloMosaic.Lib.Quiescent

@[expose] public section

noncomputable section

namespace Cert.Proof

open Idealize.ShloMosaic Idealize.ShloMosaic.TcCoe Idealize.SL.Sem

/-- The reference runs, leaves its arguments as they were, and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Lookup.run (F := Ideal) m ρ)

/-- Over the extended reals the kernel and the reference, given the same batch and table, end with the same result: the batch
    with the table added by position. -/
theorem algebraic : Cert.algebraic_KernelIdeal_ReferenceIdeal := by
  intro m ρ m' ρ' _ hagree
  refine ⟨_, Cert.KernelIdeal.Tiles.run (F := Ideal) m ρ,
    (θ_run Cert.ReferenceIdeal.defs _ _).mono (fun _ h c => ⟨(h c).1.trans ?_, (h c).2⟩)
      (Cert.ReferenceIdeal.Lookup.run (F := Ideal) m' ρ')⟩
  rw [(hagree c).1, (hagree c).2]

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
